-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x512 : Shape := ⟨3, ![1, 256, 512]⟩
abbrev S256x256 : Shape := ⟨2, ![256, 256]⟩
abbrev S_ : Shape := ⟨0, ![]⟩
abbrev S1x256x256 : Shape := ⟨3, ![1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x256x512, .f32⟩
  | .hbm, ⟨1, _⟩ => ⟨S256x256, .f32⟩
  | .local _ .vmem, ⟨0, _⟩ => ⟨S1x256x512, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_8 : BitVec 32 := 0#32
  let v17 : BitVec 1 := Scalar.cmpi .eq v2 c0_i32_8
  let v18 : BitVec 32 := Scalar.extui v17
  let c0_i32_9 : BitVec 32 := 0#32
  let v19 : BitVec 1 := Scalar.cmpi .ne v18 c0_i32_9
  v19

def k0_dev2 (d0 : Dev nD) : Nat :=
  let c0_i32_16 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_15 : BitVec 32 := 8#32
  let v29 : BitVec 32 := Scalar.muli v9 c8_i32_15
  let v30 : BitVec 32 := Scalar.addi c0_i32_16 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_17 : BitVec 32 := 4#32
  let v31 : BitVec 32 := Scalar.muli v5 c4_i32_17
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v33 : BitVec 32 := Scalar.muli v8 c1_i32_18
  let v34 : BitVec 32 := Scalar.addi v32 v33
  v34.toNat
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_10 : BitVec 32 := 1#32
  let v20 : BitVec 1 := Scalar.cmpi .eq v2 c1_i32_10
  let v21 : BitVec 32 := Scalar.extui v20
  let c0_i32_11 : BitVec 32 := 0#32
  let v22 : BitVec 1 := Scalar.cmpi .ne v21 c0_i32_11
  v22

def k0_dev3 (d0 : Dev nD) : Nat :=
  let c0_i32_17 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_16 : BitVec 32 := 8#32
  let v29 : BitVec 32 := Scalar.muli v9 c8_i32_16
  let v30 : BitVec 32 := Scalar.addi c0_i32_17 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v31 : BitVec 32 := Scalar.muli v5 c4_i32_18
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v33 : BitVec 32 := Scalar.muli v8 c1_i32_19
  let v34 : BitVec 32 := Scalar.addi v32 v33
  v34.toNat
abbrev stage0_0 : Fin 1 → Memref sig .tc .vmem S1x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealProtocol.lean ====
/- The exchange's protocol, for the program `KernelIdeal` at any float instance.

   The sixteen devices form a 2 × 2 × 4 mesh. Device `c` exchanges half of its array with `peer c`, the device at
   the other coordinate of the first mesh axis and the same two other coordinates. On each device three
   semaphores matter, its roles: `bar` (the barrier semaphore, raised once by the peer), `send` (raised when the
   device's own copy has left) and `recv` (raised when the peer's copy has arrived). Each is raised exactly once.
   This file says who raises which, what ownership the raise hands over, and in which order they may be waited
   for. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the rounds library for the staging transfers, one for the exchange. -/
abbrev Ghost : Type := UR sig nD τ × UR sig nD τ

local notation "𝕄" => MT nD τ sig Unit (Elt F) ℕ Ghost ℕ

/-- The staging transfers' copy. -/
abbrev stagingEmb : Emb (UR sig nD τ) (MT nD τ sig Unit (Elt F) ℕ Ghost ℕ) := embL
/-- The exchange's copy. -/
abbrev exEmb : Emb (UR sig nD τ) (MT nD τ sig Unit (Elt F) ℕ Ghost ℕ) := embR

variable (m : (ℓ : Loc nD τ sig) → Buf (Elt F) ℓ)

/-! ## The partner -/

/-- The device at the other coordinate of the mesh's first axis. -/
def peer (c : Dev nD) : Dev nD := ⟨(c.val + 8) % 16, Nat.mod_lt _ (by decide)⟩

/-- The partner's partner is the device itself. -/
theorem peer_peer (c : Dev nD) : peer (peer c) = c := by revert c; decide

/-- The signal's target is the partner. -/
theorem signal_target (c : Dev nD) : (⟨k0_dev1 c, k0_dev1_lt c⟩ : Dev nD) = peer c :=
  Fin.ext ((k0_dev1_eq c).trans (by revert c; decide))
/-- The first branch's copy goes to the partner. -/
theorem copy_target_low (c : Dev nD) (h : k0_cond1 c = 1#1) : (⟨k0_dev2 c, k0_dev2_lt c h⟩ : Dev nD) = peer c :=
  Fin.ext ((k0_dev2_eq c).trans (by revert c; decide))
/-- The second branch's copy goes to the partner. -/
theorem copy_target_high (c : Dev nD) (h : k0_cond2 c = 1#1) : (⟨k0_dev3 c, k0_dev3_lt c h⟩ : Dev nD) = peer c :=
  Fin.ext ((k0_dev3_eq c).trans (by revert c; decide))

/-- Whether the device is in the first half of the mesh's first axis: it then keeps the low columns. -/
def isLow (c : Dev nD) : Bool := decide (c.val < 8)

/-- The first branch is taken by the low devices, -/
theorem cond1_iff (c : Dev nD) : k0_cond1 c = 1#1 ↔ isLow c = true := by revert c; decide
/-- the second by the others. -/
theorem cond2_iff (c : Dev nD) : k0_cond2 c = 1#1 ↔ isLow c = false := by revert c; decide
/-- The partner is on the other side. -/
theorem isLow_peer (c : Dev nD) : isLow (peer c) = !isLow c := by revert c; decide

/-! ## The semaphores by role -/

/-- What one of the three semaphores is for. -/
inductive Role
  | bar | send | recv
  deriving DecidableEq

/-- There are three roles. -/
instance : Fintype Role := ⟨{.bar, .send, .recv}, fun k => by cases k <;> decide⟩

/-- The barrier semaphore. -/
abbrev barS : Sem sig := (SemArray.scalar (sig.barrier 0 rfl) : Sems sig S_).sem

/-- The semaphore of a role. -/
abbrev Role.slot : Role → SemLoc sig
  | .bar => .reg barS
  | .send => .dma cc0_scratch2.sem
  | .recv => .dma cc0_scratch3.sem

/-- The role of a semaphore, if it has one. -/
def roleOf (s : SemLoc sig) : Option Role :=
  if s = Role.slot .bar then some .bar else if s = Role.slot .send then some .send
  else if s = Role.slot .recv then some .recv else none

/-- A role's semaphore has that role. -/
theorem roleOf_slot (k : Role) : roleOf k.slot = some k := by cases k <;> decide

/-- The semaphore cell of a device and a role. -/
abbrev cell (ck : Dev nD × Role) : GSem nD τ sig := ((ck.1 : Thread nD τ), ck.2.slot)

/-- Different devices or roles have different cells. -/
theorem cell_injective : Function.Injective cell := by
  rintro ⟨c, k⟩ ⟨c', k'⟩ h
  have hc : c = c' := congrArg (fun g : GSem nD τ sig => g.1.1) h
  have hk : some k = some k' := by rw [← roleOf_slot k, ← roleOf_slot k']; exact congrArg (fun g : GSem nD τ sig => roleOf g.2) h
  rw [hc, Option.some.inj hk]

/-- A conjunction over the roles, written out. -/
theorem bigSep_role {M : Type} [URA M] (Φ : Role → sProp M) :
    bigSep Finset.univ Φ = iprop(Φ .bar ∗ Φ .send ∗ Φ .recv) :=
  bigSep_univ_eq_bigSepL [Role.bar, Role.send, Role.recv] (by decide) (by decide) Φ

/-! ## The buffers -/

/-- The device's own array, staged. -/
abbrev xM : Memref sig .tc .vmem S1x256x512 .f32 := Memref.whole cc0_stg0_0
/-- The result, staged. -/
abbrev oM : Memref sig .tc .vmem S256x256 .f32 := Memref.whole cc0_stg1_0
/-- The half on its way out. -/
abbrev outM : Memref sig .tc .vmem S256x256 .bf16 := Memref.whole cc0_scratch0
/-- The half that arrives. -/
abbrev inM : Memref sig .tc .vmem S256x256 .bf16 := Memref.whole cc0_scratch1

/-- What a copy of one half adds to a semaphore. -/
abbrev N : ℕ := inM.view.dmaCredit
/-- A copy adds something. -/
theorem N_pos : 0 < N := View.dmaCredit_pos _ (by decide)

/-- The columns a half starts at: `true` names the upper half, `false` the lower. -/
abbrev halfOff : Bool → Fin 3 → ℕ
  | true => ![0, 0, 256]
  | false => ![0, 0, 0]
/-- Either half lies within the array. -/
theorem halfOff_inb : ∀ (b : Bool) (a : Fin S1x256x512.rank), halfOff b a + S1x256x256.size a ≤ S1x256x512.size a
  | true => inb_S1x256x512_S1x256x256_0_0_256
  | false => inb_S1x256x512_S1x256x256_0_0_0
/-- A half of the array as a rectangle. -/
abbrev halfRect (b : Bool) : Rect S1x256x512 := Rect.unit (s := S1x256x512) (halfOff b) S1x256x256.size (halfOff_inb b)
/-- The whole of a 256 × 256 buffer as a rectangle. -/
abbrev allRect : Rect S256x256 := Rect.unit (s := S256x256) ![0, 0] S256x256.size inb_S256x256_S256x256_0_0

/-- The half `b` of staged contents. -/
def half (b : Bool) (x : (cc0_stg0_0 : Ref sig .tc).ty.Contents (Elt F)) : Vec F S1x256x256 .f32 :=
  xM.view.readAt (Elt F) (halfRect b).toLoadRect x

/-- The device's own array as the pipeline stages it. -/
def xAt (c : Dev nD) : (cc0_stg0_0 : Ref sig .tc).ty.Contents (Elt F) :=
  (win0_0.blk (0 : Fin 1)).view.read (Elt F) (m ((c : Thread nD τ).loc main_arg0))
/-- What the device sends: a low device its upper half, a high one its lower, rounded to the wire's type. -/
def sent (c : Dev nD) : (cc0_scratch0 : Ref sig .tc).ty.Contents (Elt F) := k0_pay1 (half (isLow c) (xAt m c))
/-- What the device computes: the half it keeps plus what its partner sent. -/
def result (c : Dev nD) : (cc0_stg1_0 : Ref sig .tc).ty.Contents (Elt F) := k0_pay2 (half (!isLow c) (xAt m c)) (sent m (peer c))

/-- The outgoing buffer of device `c` holds `f`. -/
def outPts (c : Dev nD) (f : (cc0_scratch0 : Ref sig .tc).ty.Contents (Elt F)) : sProp 𝕄 :=
  outM.view.loc (c : Thread nD τ) ↦[outM.view.set]{fullShare} f
/-- The arrival buffer of device `c` holds `f`. -/
def inPts (c : Dev nD) (f : (cc0_scratch1 : Ref sig .tc).ty.Contents (Elt F)) : sProp 𝕄 :=
  inM.view.loc (c : Thread nD τ) ↦[inM.view.set]{fullShare} f

omit [FloatOps F] in
/-- The outgoing buffer's ownership is that of all its elements. -/
theorem outPts_eq (c : Dev nD) (f : (cc0_scratch0 : Ref sig .tc).ty.Contents (Elt F)) :
    outPts c f = (((c : Thread nD τ).loc cc0_scratch0) ↦{fullShare} f : sProp 𝕄) := by unfold outPts; rw [View.set_whole]
omit [FloatOps F] in
/-- So is the arrival buffer's. -/
theorem inPts_eq (c : Dev nD) (f : (cc0_scratch1 : Ref sig .tc).ty.Contents (Elt F)) :
    inPts c f = (((c : Thread nD τ).loc cc0_scratch1) ↦{fullShare} f : sProp 𝕄) := by unfold inPts; rw [View.set_whole]

omit [FloatOps F] in
/-- The outgoing buffer's ownership may be kept in an invariant. -/
instance outPts_storable (c : Dev nD) (f) : BI.Storable (upEmb : UEmb _ 𝕄) (outPts (F := F) c f) := by unfold outPts; infer_instance
omit [FloatOps F] in
/-- So may the arrival buffer's. -/
instance inPts_storable (c : Dev nD) (f) : BI.Storable (upEmb : UEmb _ 𝕄) (inPts (F := F) c f) := by unfold inPts; infer_instance

/-! ## The schedule -/

/-- What the raise of a device's cell hands it. The partner's barrier signal hands over the partner's arrival buffer
    and the knowledge that its `recv` cell is open; the arrival, the buffer filled with what the partner sent; the
    departure, the outgoing buffer back. -/
def handed (c : Dev nD) : Role → sProp 𝕄
  | .bar => iprop((∃ f, inPts (peer c) f) ∗ reached exEmb (cell (peer c, .recv)) 0)
  | .send => outPts c (sent m c)
  | .recv => inPts c (sent m (peer c))

/-- What a raise hands over may be kept in an invariant. -/
instance handed_storable (c : Dev nD) (k : Role) : BI.Storable (upEmb : UEmb _ 𝕄) (handed (F := F) m c k) := by
  cases k <;> dsimp only [handed] <;> infer_instance

/-- By how much a role's cell is raised. -/
def units : Role → ℕ
  | .bar => 1
  | .send => N
  | .recv => N

/-- Every raise adds something. -/
theorem units_pos (k : Role) : 0 < units k := by
  cases k
  · exact Nat.one_pos
  · exact N_pos
  · exact N_pos

/-- One round per cell, one raise in it. -/
def sched : Rounds.Schedule (GSem nD τ sig) Unit 𝕄 where
  duties g r := if r = 0 ∧ g.1.2 = .tc ∧ (roleOf g.2).isSome = true then {()} else ∅
  unitless _ := False
  amount g _ _ := (roleOf g.2).elim 1 units
  payload g _ _ := (roleOf g.2).elim iprop(emp) (handed m g.1.1)
  amount_pos g _ _ _ := by
    cases roleOf g.2 with
    | none => exact Nat.one_pos
    | some k => exact units_pos k

/-- The schedule's payloads may be kept in an invariant. -/
instance sched_storable (g : GSem nD τ sig) (r : ℕ) (d : Unit) :
    BI.Storable (upEmb : UEmb _ 𝕄) ((sched (F := F) m).payload g r d) := by
  show BI.Storable upEmb ((roleOf g.2).elim iprop(emp) (handed m g.1.1))
  cases roleOf g.2 <;> dsimp only [Option.elim] <;> infer_instance

section Tables

variable (c : Dev nD) (k : Role)

/-- The only raise of a cell's round is the one indexed by `()`. -/
theorem duties_cell : (sched (F := F) m).duties (cell (c, k)) 0 = {()} :=
  if_pos ⟨rfl, rfl, by rw [roleOf_slot]; rfl⟩
/-- That raise belongs to the round. -/
theorem duty_mem : () ∈ (sched (F := F) m).duties (cell (c, k)) 0 := by rw [duties_cell]; exact Finset.mem_singleton_self _
/-- No raise is left after the first round. -/
theorem duties_over (g : GSem nD τ sig) : ∀ r, 0 + 1 ≤ r → (sched (F := F) m).duties g r = ∅ :=
  fun r hr => if_neg fun h => by omega
/-- A cell is raised by its role's units. -/
theorem amount_cell (u : Unit) : (sched (F := F) m).amount (cell (c, k)) 0 u = units k := by
  show (roleOf k.slot).elim 1 units = units k
  rw [roleOf_slot]; rfl
/-- A wait for the whole round is for the role's units. -/
theorem expect_cell : (sched (F := F) m).expect (cell (c, k)) 0 = units k := by
  unfold Schedule.expect Schedule.amountOf; rw [duties_cell, Finset.sum_singleton, amount_cell]
/-- A cell's raise hands over what its role says. -/
theorem payload_cell (u : Unit) : (sched (F := F) m).payload (cell (c, k)) 0 u = handed m c k := by
  show (roleOf k.slot).elim iprop(emp) (handed m c) = handed m c k
  rw [roleOf_slot]; rfl
/-- All that a wait for the whole round brings. -/
theorem rest_cell : bigSep ((sched (F := F) m).duties (cell (c, k)) 0 \ ∅) (fun u => (sched (F := F) m).payload (cell (c, k)) 0 u)
    = handed m c k := by
  rw [Finset.sdiff_empty, duties_cell, bigSep_singleton, payload_cell]

end Tables

/-! ## Debts and levels -/

/-- What a device owes once it has signalled: the arrival on its partner. -/
def owedCopy (c : Dev nD) : CellTallies nD τ sig Unit := tallyAt (cell (peer c, .recv)) () N
/-- What it owes at the start: that and the signal. -/
def owedStart (c : Dev nD) : CellTallies nD τ sig Unit := owedCopy c + tallyAt (cell (peer c, .bar)) () 1

/-- A cell may be waited for only while everything owed is on cells of a higher rank. -/
def Role.rank : Role → ℕ
  | .bar => 1
  | .send => 0
  | .recv => 2
/-- Every cell of a TensorCore has one index. -/
def L (g : GSem nD τ sig) : Finset Unit := if g.1.2 = .tc then {()} else ∅
/-- The rank of a cell; a staging semaphore is below both owed cells. -/
def lev (g : GSem nD τ sig) (_ : Unit) : ℕ := (roleOf g.2).elim 0 Role.rank

/-- The index `()` is one of every TensorCore cell's. -/
theorem L_tc (c : Dev nD) (s : SemLoc sig) (u : Unit) : u ∈ L ((c : Thread nD τ), s) := by
  unfold L; rw [if_pos rfl]; exact Finset.mem_singleton_self _
/-- A cell of the exchange has its role's rank. -/
theorem lev_cell (ck : Dev nD × Role) (u : Unit) : lev (cell ck) u = ck.2.rank := by
  show (roleOf ck.2.slot).elim 0 Role.rank = _
  rw [roleOf_slot]; rfl

omit [FloatOps F] in
/-- A staging semaphore may be waited for at the start. -/
theorem mayWait_staging (c : Dev nD) (s : SemLoc sig) (hs : roleOf s = none) :
    (levAts L lev : sProp 𝕄) ⊢ MayWait (c : Thread nD τ) s () (owedStart c) :=
  Pipeline.mayWait_of_levAts (L_tc c s ()) fun g u h => by
    have hl : lev ((c : Thread nD τ), s) () = 0 := by show (roleOf s).elim 0 Role.rank = 0; rw [hs]; rfl
    rw [hl]
    rcases Pipeline.add_pos_cases h with h | h <;> obtain ⟨rfl, -⟩ := Pipeline.tallyAt_pos h <;>
      exact ⟨L_tc _ _ _, by rw [lev_cell]; exact Nat.succ_pos _⟩

omit [FloatOps F] in
/-- The barrier may be waited for while only the copy is owed. -/
theorem mayWait_barrier (c : Dev nD) :
    (levAts L lev : sProp 𝕄) ⊢ MayWait (c : Thread nD τ) (Role.slot .bar) () (owedCopy c) :=
  Pipeline.mayWait_of_levAts (L_tc c _ ()) fun g u h => by
    obtain ⟨rfl, -⟩ := Pipeline.tallyAt_pos h
    exact ⟨L_tc _ _ _, by rw [lev_cell, show ((c : Thread nD τ), Role.slot .bar) = cell (c, .bar) from rfl, lev_cell]; exact Nat.lt_succ_self 1⟩

/-! ## What a device holds -/

/-- The cell whose raise a device performs in a role: the two that concern arrival are its partner's. -/
def raised : Dev nD × Role → Dev nD × Role
  | (c, .bar) => (peer c, .bar)
  | (c, .send) => (c, .send)
  | (c, .recv) => (peer c, .recv)

/-- `raised` undoes itself. -/
theorem raised_raised : ∀ ck, raised (raised ck) = ck
  | (c, .bar) => congrArg (·, Role.bar) (peer_peer c)
  | (_, .send) => rfl
  | (c, .recv) => congrArg (·, Role.recv) (peer_peer c)

/-- `raised` as a permutation of all the cells. -/
def raisedEquiv : Dev nD × Role ≃ Dev nD × Role := ⟨raised, raised, raised_raised, raised_raised⟩

/-- What everybody may know: every cell's invariant, and that its round is open. -/
def known (K : Dev nD × Role → ℕ) : sProp 𝕄 :=
  bigSep Finset.univ fun ck => iprop(cellInv exEmb (sched m) (K ck) (cell ck) ∗ reached exEmb (cell ck) 0)

/-- What everybody may know can be used any number of times. -/
instance known_persistent (K : Dev nD × Role → ℕ) : BI.Persistent (known m K) := by unfold known; infer_instance

/-- What is known of one cell. -/
theorem known_at (K : Dev nD × Role → ℕ) (ck : Dev nD × Role) :
    known m K ⊢ iprop(cellInv exEmb (sched m) (K ck) (cell ck) ∗ reached exEmb (cell ck) 0) :=
  bigSep_elim (Finset.mem_univ ck)

/-- A device's position at its own cells, and the right to perform its three raises. -/
def rights (c : Dev nD) : sProp 𝕄 :=
  bigSep Finset.univ fun k : Role => iprop(atPos exEmb (cell (c, k)) 0 ∅ 0 ∗ dutyTok exEmb (cell (raised (c, k))) 0 ())

/-- What the launch deals a device. -/
def dealt (c : Dev nD) : sProp 𝕄 := iprop(∃ K, known m K ∗ rights c)

/-- What a device starts the kernel with. -/
def atStart (c : Dev nD) : sProp 𝕄 :=
  iprop(dealt m c ∗ cred (tallyAt (cell (c, .bar)) () 1) ∗ cred (tallyAt (cell (c, .recv)) () N) ∗ levAts L lev)

/-- Before the body: the start and the two buffers. -/
def before (c : Dev nD) : sProp 𝕄 := iprop(atStart m c ∗ (∃ f, outPts c f) ∗ (∃ f, inPts c f))
/-- After it: the buffers filled, the three counters back at zero. -/
def after (c : Dev nD) : sProp 𝕄 :=
  iprop((outPts c (sent m c) ∗ inPts c (sent m (peer c))) ∗ bigSep Finset.univ fun k : Role => semVal (cell (c, k)) 0)

end Cert.KernelIdeal.Exchange

end
-- ==== Proof.KernelIdealBody.lean ====
/- The kernel body of `KernelIdeal`, statement by statement, against the exchange's protocol: started with what
   `before` names it ends with what `after` names, and the result's staging buffer holds `result`. -/
module

public import proofs.«01_k».proof.Proof.KernelIdealProtocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ)

/-! ## The body in two parts -/

/-- One branch of the body: send the half `b`, add what arrives to the other half, wait for the departure. -/
def trade (b : Bool) (n : Dev nD) : Prog (TpuEff nD τ sig (Elt F) Λ₀ .tc) PUnit := do
  let v ← Prog.lift (.load xM (halfRect b).toLoadRect (View.loadsAt_vmem h_S1x256x256))
  let _ ← Prog.lift (.load outM allRect.toLoadRect (View.loadsAt_vmem h_S256x256))
  Prog.lift (.store outM allRect (k0_pay1 v) Finset.univ
    (View.stores_vmem h_S256x256 ((Memref.isWhole_whole cc0_scratch0).storeExact_slice rfl _ packedbf16_S256x256_S256x256_0_0) (fun _ => rfl)) (.inl rfl))
  Prog.lift (.enqueueDma outM (.remote (Dev.tc n) inM (.dma cc0_scratch2.sem)) (.dma cc0_scratch3.sem)
    (Memref.isWhole_whole cc0_scratch0).wordExact (Memref.isWhole_whole cc0_scratch1).wordExact ⟨⟨rfl, Or.inl rfl⟩, trivial⟩)
  Prog.lift (.waitDma2 cc0_scratch3.sem outM inM (Memref.isWhole_whole cc0_scratch0).wordExact (Memref.isWhole_whole cc0_scratch1).wordExact)
  let u ← Prog.lift (.load xM (halfRect (!b)).toLoadRect (View.loadsAt_vmem h_S1x256x256))
  let w ← Prog.lift (.load inM allRect.toLoadRect (View.loadsAt_vmem h_S256x256))
  let _ ← Prog.lift (.load oM allRect.toLoadRect (View.loadsAt_vmem h_S256x256))
  Prog.lift (.store oM allRect (k0_pay2 u w) Finset.univ (View.stores_vmem_bits_univ h_S256x256 rfl) (.inl rfl))
  Prog.lift (.waitDma2 cc0_scratch2.sem inM outM (Memref.isWhole_whole cc0_scratch1).wordExact (Memref.isWhole_whole cc0_scratch0).wordExact)
  pure ⟨⟩

/-- The two branches in the body's order: only the one of the device's side does anything. -/
def branches (d : Dev nD) : Prog (TpuEff nD τ sig (Elt F) Λ₀ .tc) PUnit := do
  if h : k0_cond1 d = 1#1 then trade true ⟨k0_dev2 d, k0_dev2_lt d h⟩ else pure ⟨⟩
  if h : k0_cond2 d = 1#1 then trade false ⟨k0_dev3 d, k0_dev3_lt d h⟩ else pure ⟨⟩
  pure ⟨⟩

/-- The body on the staged buffers. -/
abbrev body : Prog (TpuEff nD τ sig (Elt F) Λ₀ .tc) PUnit :=
  cc0_body xM (Memref.isWhole_whole _) oM (Memref.isWhole_whole _) outM (Memref.isWhole_whole _) inM (Memref.isWhole_whole _)
    cc0_scratch2 cc0_scratch3

/-- The body is the handshake followed by the branches. -/
theorem body_eq : body (F := F) = (do
    let d : Dev nD ← Prog.lift .deviceId
    semSignalWord (⟨k0_dev1 d, k0_dev1_lt d⟩ : Dev nD) barS 1#32
    semWaitWord barS 1#32
    branches d) := by
  unfold body; rw [cc0_body_eq_skeleton]; rfl

/-! ## Whole-buffer reads and writes -/

/-- The rectangle of a whole buffer starts at zero on both axes. -/
theorem zero_off : (![0, 0] : Fin 2 → ℕ) = fun _ => 0 := funext fun a => by fin_cases a <;> rfl

omit [FloatOps F] in
/-- Storing over the whole outgoing buffer leaves what was stored. -/
theorem store_out (f w : (cc0_scratch0 : Ref sig .tc).ty.Contents (Elt F)) :
    (outM.access allRect : View sig .tc _ _ _).write (Elt F) f w Finset.univ = w :=
  Memref.write_access_unit_zero_univ (Elt F) cc0_scratch0 zero_off _ f w
omit [FloatOps F] in
/-- So with the result's buffer. -/
theorem store_result (f w : (cc0_stg1_0 : Ref sig .tc).ty.Contents (Elt F)) :
    (oM.access allRect : View sig .tc _ _ _).write (Elt F) f w Finset.univ = w :=
  Memref.write_access_unit_zero_univ (Elt F) cc0_stg1_0 zero_off _ f w
omit [FloatOps F] in
/-- Loading the whole arrival buffer reads what it holds. -/
theorem load_in (f : (cc0_scratch1 : Ref sig .tc).ty.Contents (Elt F)) : inM.view.readAt (Elt F) allRect.toLoadRect f = f :=
  Memref.readAt_unit_zero (Elt F) cc0_scratch1 zero_off _ f
omit [FloatOps F] in
/-- A copy of the outgoing buffer over an arrival buffer leaves the former's contents. -/
theorem copied (fd : (cc0_scratch1 : Ref sig .tc).ty.Contents (Elt F)) (fs : (cc0_scratch0 : Ref sig .tc).ty.Contents (Elt F)) :
    inM.view.write (Elt F) fd (outM.view.read (Elt F) fs) Finset.univ = fs :=
  (congrArg (fun r => (View.whole cc0_scratch1).write (Elt F) fd r Finset.univ) (View.read_whole cc0_scratch0 fs)).trans
    (View.write_whole_univ _ _ _)

/-- The outgoing buffer as the store leaves it: it holds the half to send, cast. -/
theorem filled (c : Dev nD) :
    (((outM.access allRect).loc (c : Thread nD τ)) ↦{fullShare} k0_pay1 (xM.view.readAt (Elt F) (halfRect (isLow c)).toLoadRect (xAt m c)) : sProp 𝕄)
      ⊢ outPts c (sent m c) :=
  Entails.of_eq (outPts_eq c (sent m c)).symm

/-! ## The copy -/

section Steps

variable (K : Dev nD × Role → ℕ) (c : Dev nD)

/-- The copy to the partner: it takes the filled outgoing buffer, the partner's arrival buffer and the two rights, and
    leaves the credit to wait for the departure, with nothing more owed. -/
theorem wp_copy_to_peer {α : Type} {Q : α → sProp 𝕄} (n : Dev nD) (hn : n = peer c) {hsc : (inM : Memref sig (Dev.tc n : Thread nD τ).2.kind .vmem S256x256 .bf16).view.ref.isScScratch = false}
    {hsrc : outM.view.WordExact} {hdst : inM.view.WordExact}
    {hsem : DmaTarget.Typed .vmem (.dma cc0_scratch3.sem) (.remote (Dev.tc n : Thread nD τ) inM (.dma cc0_scratch2.sem) hsc)}
    {k : PUnit → Prog (TpuEff nD τ sig (Elt F) Λ₀ .tc) α} (fd : (cc0_scratch1 : Ref sig .tc).ty.Contents (Elt F)) (W : Waits sig Unit) :
    iprop(known m K ∗ outPts c (sent m c) ∗ inPts (peer c) fd ∗ owes (c : Thread nD τ) (owedCopy c) W
        ∗ dutyTok exEmb (cell (c, .send)) 0 () ∗ dutyTok exEmb (cell (peer c, .recv)) 0 ())
      ⊢ iprop(((cred (tallyAt (cell (c, .send)) () N) ∗ owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma outM (.remote (Dev.tc n : Thread nD τ) inM (.dma cc0_scratch2.sem) hsc) (.dma cc0_scratch3.sem) hsrc hdst hsem) k) Q) := by
  subst hn
  iintro ⟨#HK, Hsrc, Hdst, HO, Hts, Htr⟩
  ihave #Hs := (known_at m K (c, .send)) $$ HK
  ihave #Hr := (known_at m K (peer c, .recv)) $$ HK
  icases Hs with ⟨#HsI, #HsR⟩
  icases Hr with ⟨#HrI, #HrR⟩
  unfold outPts inPts
  iapply (Rounds.wp_send_pointsTo Variants.none exEmb (sched m) (c : Thread nD τ) none (κ₁ := K (c, .send)) (κ₂ := K (peer c, .recv))
    (r₁ := 0) (r₂ := 0) (d₁ := ()) (d₂ := ()) (fd := fd) (duty_mem m c .send) (duty_mem m (peer c) .recv) () () N rfl
    (amount_cell m c .send ()) (amount_cell m (peer c) .recv ()) 0 (by rw [zero_add]) (W := W)
    (by rw [payload_cell m c .send]; exact BI.Entails.refl _)
    (by rw [payload_cell m (peer c) .recv]; unfold handed inPts; rw [copied, peer_peer]))
  isplitr; · iexact HsI
  isplitr; · iexact HrI
  isplitl [Hsrc]; · iexact Hsrc
  isplitl [Hdst]; · iexact Hdst
  isplitl [HO]; · iexact HO
  isplitl [Hts]; · iexact Hts
  isplitr; · iexact HsR
  isplitl [Htr]; · iexact Htr
  iexact HrR

/-- The departure raises its cell by what the arrival raises its own. -/
theorem out_credit : outM.view.dmaCredit = units .send := by decide

/-- A wait for the whole of one of the device's own cells brings what its raise hands over. -/
theorem wp_wait_own {α : Type} {Q : α → sProp 𝕄} (k : Role) {w : TpuEff nD τ sig (Elt F) Λ₀ .tc PUnit} {n : ℕ} (hn : n = units k)
    (hw : ∀ G : PUnit → sProp 𝕄, wpE (defs₀ (F := F)) Variants.none (c : Thread nD τ) none Set.univ w G
      = waitSpec (c : Thread nD τ) Set.univ k.slot n G)
    {kont : PUnit → Prog (TpuEff nD τ sig (Elt F) Λ₀ .tc) α} (O : CellTallies nD τ sig Unit) (W : Waits sig Unit) :
    iprop(known m K ∗ cred (tallyAt (cell (c, k)) () (units k)) ∗ owes (c : Thread nD τ) O W
        ∗ MayWait (c : Thread nD τ) k.slot () O ∗ atPos exEmb (cell (c, k)) 0 ∅ 0)
      ⊢ iprop((((∃ W', owes (c : Thread nD τ) O W') ∗ atPos exEmb (cell (c, k)) (0 + 1) ∅ 0 ∗ handed m c k)
            -∗ wp frame (wpE (defs₀ (F := F)) Variants.none (c : Thread nD τ) none) Set.univ (kont ⟨⟩) Q)
          -∗ wp frame (wpE (defs₀ (F := F)) Variants.none (c : Thread nD τ) none) Set.univ (.op w kont) Q) := by
  subst hn
  iintro ⟨#HK, Hc, HO, Hm, Ha⟩ Hk
  ihave #H := (known_at m K (c, k)) $$ HK
  icases H with ⟨#HI, -⟩
  have hk : 0 + units k = (sched (F := F) m).expect (cell (c, k)) 0 := by rw [Nat.zero_add]; exact (expect_cell m c k).symm
  iapply (Rounds.wp_wait_rest_token Variants.none exEmb (sched m) (c : Thread nD τ) none (κ := K (c, k)) hw (Set.mem_univ _) ()
    (O := O) (W := W) (R := 0) (m := 0) (T := ∅) hk) $$ [Hc HO Hm Ha]
  · isplitr; · iexact HI
    isplitl [Hc]; · iexact Hc
    isplitl [HO]; · iexact HO
    isplitl [Hm]; · iexact Hm
    iexact Ha
  iintro ⟨HO, Ha, -, Hp⟩
  iapply Hk
  isplitl [HO]; · iexists insert (k.slot, ()) W; iexact HO
  isplitl [Ha]; · iexact Ha
  ihave Hp := (Entails.of_eq (rest_cell m c k)) $$ Hp
  iexact Hp

/-- A cell whose round has been waited for reads zero. -/
theorem close_own (k : Role) :
    iprop(known m K ∗ atPos exEmb (cell (c, k)) (0 + 1) ∅ 0) ⊢ iprop(|={Set.univ}=> (semVal (cell (c, k)) 0 : sProp 𝕄)) := by
  iintro ⟨#HK, Ha⟩
  ihave #H := (known_at m K (c, k)) $$ HK
  icases H with ⟨#HI, -⟩
  iapply (Rounds.cell_close exEmb (sched m) (Set.mem_univ (K (c, k))) (fun h => h) (R := 0 + 1) (duties_over m (cell (c, k))))
  isplitr; · iexact HI
  iexact Ha

end Steps

/-! ## A branch -/

/-- A staging buffer holding `f`. -/
abbrev stagedPts (c : Dev nD) (b : Ref sig .tc) (f : b.ty.Contents (Elt F)) : sProp 𝕄 := ((c : Thread nD τ).loc b) ↦{fullShare} f

/-- What a branch starts with. -/
def tradePre (K : Dev nD × Role → ℕ) (c : Dev nD) : sProp 𝕄 :=
  iprop(known m K ∗ (atPos exEmb (cell (c, .send)) 0 ∅ 0 ∗ atPos exEmb (cell (c, .recv)) 0 ∅ 0)
    ∗ (dutyTok exEmb (cell (c, .send)) 0 () ∗ dutyTok exEmb (cell (peer c, .recv)) 0 ())
    ∗ cred (tallyAt (cell (c, .recv)) () N) ∗ (∃ W, owes (c : Thread nD τ) (owedCopy c) W)
    ∗ (∃ f, outPts c f) ∗ (∃ f, inPts (peer c) f) ∗ stagedPts c cc0_stg0_0 (xAt m c) ∗ (∃ f, stagedPts c cc0_stg1_0 f))

/-- What it ends with. -/
def tradePost (c : Dev nD) : sProp 𝕄 :=
  iprop((semVal (cell (c, .send)) 0 ∗ semVal (cell (c, .recv)) 0) ∗ (∃ W, owes (c : Thread nD τ) 0 W)
    ∗ (outPts c (sent m c) ∗ inPts c (sent m (peer c))) ∗ stagedPts c cc0_stg0_0 (xAt m c) ∗ stagedPts c cc0_stg1_0 (result m c))

/-- A branch on the half the device sends does the exchange. -/
theorem wp_trade (K : Dev nD × Role → ℕ) (c : Dev nD) (b : Bool) (hb : isLow c = b) (n : Dev nD) (hn : n = peer c) (Q : PUnit → sProp 𝕄) :
    iprop(tradePre m K c ∗ (tradePost m c -∗ Q ⟨⟩))
      ⊢ wp frame (wpE (defs₀ (F := F)) Variants.none (c : Thread nD τ) none) Set.univ (trade b n) Q := by
  subst hb
  unfold trade tradePre
  simp only [Prog.lift, Prog.bind_op, Prog.bind_ret, Prog.pure_eq_ret]
  iintro ⟨⟨#HK, ⟨Has, Har⟩, ⟨Hts, Htr⟩, Hcr, ⟨%W, HO⟩, ⟨%f, Hout⟩, ⟨%fd, Hin⟩, Hx, ⟨%fo, Ho⟩⟩, Hk⟩
  -- fill the outgoing buffer
  iapply (wp_load Variants.none (c : Thread nD τ) none Set.univ (m := xM) (Finset.subset_univ _)) $$ Hx; iintro Hx
  ihave Hout := (Entails.of_eq (outPts_eq c f)) $$ Hout
  iapply (wp_load Variants.none (c : Thread nD τ) none Set.univ (m := outM) (Finset.subset_univ _)) $$ Hout; iintro Hout
  iapply (wp_store Variants.none (c : Thread nD τ) none Set.univ (m := outM) (r := allRect) (Mk := Finset.univ) (Finset.subset_univ _)) $$ Hout; iintro Hout
  rw [store_out]
  ihave Hout := (filled m c) $$ Hout
  -- send it, and wait for the partner's
  iapply (wp_copy_to_peer m K c n hn fd W) $$ [Hout Hin HO Hts Htr]
  · isplitr; · iexact HK
    isplitl [Hout]; · iexact Hout
    isplitl [Hin]; · iexact Hin
    isplitl [HO]; · iexact HO
    isplitl [Hts] <;> iassumption
  iintro ⟨Hcs, HO⟩
  iapply (wp_wait_own m K c .recv rfl (wpE_waitDma2_eq Variants.none (c : Thread nD τ) none Set.univ) 0 W) $$ [Hcr HO Har]
  · isplitr; · iexact HK
    isplitl [Hcr]; · iexact Hcr
    isplitl [HO]; · iexact HO
    isplitr; · rw [MayWait_zero]; iempintro
    iexact Har
  iintro ⟨⟨%W1, HO⟩, Har, Hin⟩
  unfold handed
  ihave Hin := (Entails.of_eq (inPts_eq c (sent m (peer c)))) $$ Hin
  -- the sum
  iapply (wp_load Variants.none (c : Thread nD τ) none Set.univ (m := xM) (Finset.subset_univ _)) $$ Hx; iintro Hx
  iapply (wp_load Variants.none (c : Thread nD τ) none Set.univ (m := inM) (Finset.subset_univ _)) $$ Hin; iintro Hin
  rw [load_in]
  iapply (wp_load Variants.none (c : Thread nD τ) none Set.univ (m := oM) (Finset.subset_univ _)) $$ Ho; iintro Ho
  iapply (wp_store Variants.none (c : Thread nD τ) none Set.univ (m := oM) (r := allRect) (Mk := Finset.univ) (Finset.subset_univ _)) $$ Ho; iintro Ho
  rw [store_result]
  -- the departure
  iapply (wp_wait_own m K c .send out_credit (wpE_waitDma2_eq Variants.none (c : Thread nD τ) none Set.univ) 0 W1) $$ [Hcs HO Has]
  · isplitr; · iexact HK
    isplitl [Hcs]; · iexact Hcs
    isplitl [HO]; · iexact HO
    isplitr; · rw [MayWait_zero]; iempintro
    iexact Has
  iintro ⟨⟨%W2, HO⟩, Has, Hout⟩
  unfold handed
  imod (close_own m K c .send) $$ [Has] with Hzs
  · isplitr; · iexact HK
    iexact Has
  imod (close_own m K c .recv) $$ [Har] with Hzr
  · isplitr; · iexact HK
    iexact Har
  rw [wp_ret]; imodintro
  iapply Hk
  unfold tradePost
  isplitl [Hzs Hzr]
  · isplitl [Hzs] <;> iassumption
  isplitl [HO]; · iexists W2; iexact HO
  isplitl [Hout Hin]
  · isplitl [Hout]; · iexact Hout
    iapply (Entails.of_eq (inPts_eq c (sent m (peer c))).symm); iexact Hin
  isplitl [Hx]; · iexact Hx
  iexact Ho

/-- The branches do the exchange: the one taken is the device's own. -/
theorem wp_branches (K : Dev nD × Role → ℕ) (c : Dev nD) (Q : PUnit → sProp 𝕄) :
    iprop(tradePre m K c ∗ (tradePost m c -∗ Q ⟨⟩))
      ⊢ wp frame (wpE (defs₀ (F := F)) Variants.none (c : Thread nD τ) none) Set.univ (branches c) Q := by
  unfold branches
  cases hb : isLow c with
  | true =>
    have h1 := (cond1_iff c).2 hb
    have h2 : ¬ k0_cond2 c = 1#1 := fun h => by rw [(cond2_iff c).1 h] at hb; exact Bool.noConfusion hb
    simp only [dif_pos h1, dif_neg h2, Prog.pure_eq_ret, Prog.bind_ret, wp_bind]
    iintro ⟨HP, Hk⟩
    iapply (wp_trade m K c true hb _ (copy_target_low c h1))
    isplitl [HP]; · iexact HP
    iintro H
    rw [wp_ret]; imodintro
    iapply Hk; iexact H
  | false =>
    have h1 : ¬ k0_cond1 c = 1#1 := fun h => by rw [(cond1_iff c).1 h] at hb; exact Bool.noConfusion hb
    have h2 := (cond2_iff c).2 hb
    simp only [dif_neg h1, dif_pos h2, Prog.pure_eq_ret, Prog.bind_ret, wp_bind]
    iintro ⟨HP, Hk⟩
    iapply (wp_trade m K c false hb _ (copy_target_high c h2))
    isplitl [HP]; · iexact HP
    iintro H
    rw [wp_ret]; imodintro
    iapply Hk; iexact H

/-! ## The handshake -/

/-- What the body starts with, one name per part. -/
def bodyPre (c : Dev nD) : sProp 𝕄 :=
  iprop(before m c ∗ (∃ W, owes (c : Thread nD τ) (owedStart c) W) ∗ stagedPts c cc0_stg0_0 (xAt m c) ∗ (∃ f, stagedPts c cc0_stg1_0 f))
/-- What it ends with. -/
def bodyPost (c : Dev nD) : sProp 𝕄 :=
  iprop(after m c ∗ (∃ W, owes (c : Thread nD τ) 0 W) ∗ stagedPts c cc0_stg0_0 (xAt m c) ∗ stagedPts c cc0_stg1_0 (result m c))

/-- The body: signal the partner, lending it the arrival buffer; wait for the partner's signal, which lends the
    partner's; then the branches. -/
theorem wp_body (c : Dev nD) (Q : PUnit → sProp 𝕄) :
    iprop(bodyPre m c ∗ (bodyPost m c -∗ Q ⟨⟩))
      ⊢ wp frame (wpE (defs₀ (F := F)) Variants.none (c : Thread nD τ) none) Set.univ body Q := by
  rw [body_eq]
  unfold bodyPre before atStart dealt rights
  simp only [bigSep_role, raised]
  simp only [semSignalWord, semWaitWord, Prog.lift, Prog.bind_op, Prog.bind_ret, Prog.pure_eq_ret, wp_deviceId]
  iintro ⟨⟨⟨⟨⟨%K, #HK, ⟨Hab, Htb⟩, ⟨Has, Hts⟩, ⟨Har, Htr⟩⟩, Hcb, Hcr, #Hlev⟩, Hout, Hin⟩, ⟨%W, HO⟩, Hx, Ho⟩, Hk⟩
  simp only [signal_target c]
  ihave #Hb := (known_at m K (peer c, .bar)) $$ HK
  ihave #Hr := (known_at m K (c, .recv)) $$ HK
  icases Hb with ⟨#HbI, #HbR⟩
  icases Hr with ⟨-, #HrR⟩
  iapply (Rounds.wp_signal Variants.none exEmb (sched m) (c : Thread nD τ) none (dst := (peer c : Thread nD τ)) (κ := K (peer c, .bar))
    (duty_mem m (peer c) .bar) ((amount_cell m (peer c) .bar ()).trans (by decide)) () (owedCopy c) rfl) $$ [HO Htb Hin]
  · isplitr; · iexact HbI
    isplitl [HO]; · iexact HO
    isplitl [Htb]; · iexact Htb
    isplitl [Hin]
    · rw [show (sched (F := F) m).payload ((peer c : Thread nD τ), .reg barS) 0 () = handed m (peer c) .bar from payload_cell m (peer c) .bar ()]
      unfold handed; rw [peer_peer]
      isplitl [Hin]; · iexact Hin
      iexact HrR
    · iexact HbR
  iintro HO
  iapply (wp_wait_own m K c .bar rfl (wpE_semWait_eq Variants.none (c : Thread nD τ) none Set.univ) (owedCopy c) W) $$ [Hcb HO Hab]
  · isplitr; · iexact HK
    isplitl [Hcb]; · iexact Hcb
    isplitl [HO]; · iexact HO
    isplitr; · iapply (mayWait_barrier c); iexact Hlev
    iexact Hab
  iintro ⟨HO, Hab, Hlent⟩
  unfold handed
  icases Hlent with ⟨Hfar, -⟩
  imod (close_own m K c .bar) $$ [Hab] with Hzb
  · isplitr; · iexact HK
    iexact Hab
  iapply (wp_branches m K c)
  isplitr [Hk Hzb]
  · unfold tradePre
    isplitr; · iexact HK
    isplitl [Has Har]
    · isplitl [Has] <;> iassumption
    isplitl [Hts Htr]
    · isplitl [Hts] <;> iassumption
    isplitl [Hcr]; · iexact Hcr
    isplitl [HO]; · iexact HO
    isplitl [Hout]; · iexact Hout
    isplitl [Hfar]; · iexact Hfar
    isplitl [Hx] <;> iassumption
  unfold tradePost
  iintro ⟨⟨Hzs, Hzr⟩, HO, Hbufs, Hx, Ho⟩
  iapply Hk
  unfold bodyPost after
  rw [bigSep_role]
  isplitl [Hbufs Hzb Hzs Hzr]
  · isplitl [Hbufs]; · iexact Hbufs
    isplitl [Hzb]; · iexact Hzb
    isplitl [Hzs] <;> iassumption
  isplitl [HO]; · iexact HO
  isplitl [Hx] <;> iassumption

/-! ## The pipeline's obligation -/

/-- The proof data of the region on one device: its array and its result, what it holds between points, what it owes. -/
def dats (_ : Fin 1) (c : Dev nD) : Dat τ (Elt F) Unit ℕ Ghost ℕ cfg0 c where
  A w := m ((cfg0.win w).arr.view.loc (c : Thread nD τ))
  after w _ := match w with
    | ⟨0, _⟩ => xAt m c
    | ⟨1, _⟩ => result m c
  Φ t := match t with
    | ⟨0, _⟩ => before m c
    | ⟨_ + 1, _⟩ => after m c
  q _ := fullShare
  owed t := match t with
    | ⟨0, _⟩ => owedStart c
    | ⟨_ + 1, _⟩ => 0

omit [FloatOps F] in
/-- A staging buffer owned whole is its points-to. -/
theorem owns_staged (c : Dev nD) (b : Ref sig .tc) (X : b.ty.Contents (Elt F)) :
    (owns (Ix := Unit) (Name := ℕ) (U := Ghost) (Lvl := ℕ) (c : Thread nD τ) (Memref.whole b) fullShare X : sProp 𝕄)
      ⊣⊢ stagedPts c b X := by
  unfold owns; simp only [Memref.view_whole, View.read_whole, View.set_whole]
  constructor
  · iintro ⟨%f, %hf, H⟩; subst hf; iexact H
  · iintro H; iexists X; isplitr; · (ipureintro; rfl)
    iexact H

/-- The only point of the grid. -/
abbrev point : Fin cfg0.N := (0 : Fin 1)
/-- There is no other point. -/
theorem only_point (t : Fin cfg0.N) : t = point := Subsingleton.elim (α := Fin 1) _ _

set_option maxRecDepth 4000 in
/-- The body does at the grid's point what the region's proof data say. -/
theorem body_obligation (c : Dev nD) : BodyObligation (dats (F := F) m 0 c) (defs₀ (F := F)) Variants.none () Set.univ := fun t => by
  rw [only_point t]
  rw [bigSep_W0, bigSep_W0]
  show iprop(before m c ∗ (dats m 0 c).owesAt () point.castSucc
        ∗ (∃ d, owns (c : Thread nD τ) (Memref.whole cc0_stg0_0) fullShare ((dats m 0 c).before (0 : Fin 2) point d))
        ∗ (∃ d, owns (c : Thread nD τ) (Memref.whole cc0_stg1_0) fullShare ((dats m 0 c).before (1 : Fin 2) point d)))
    ⊢ wp frame (wpE (defs₀ (F := F)) Variants.none (c : Thread nD τ) none) Set.univ body fun _ =>
      iprop(after m c ∗ (dats m 0 c).owesAt () point.succ
        ∗ owns (c : Thread nD τ) (Memref.whole cc0_stg0_0) fullShare (xAt m c)
        ∗ owns (c : Thread nD τ) (Memref.whole cc0_stg1_0) fullShare (result m c))
  have hx : ∀ d, (dats m 0 c).before (0 : Fin 2) point d = xAt m c := fun d => by
    unfold Dat.before; rw [if_pos (fetch0_0 point)]; rfl
  simp only [hx]
  iintro ⟨HΦ, Ho, ⟨%d0, Hx⟩, ⟨%d1, Hr⟩⟩
  unfold Dat.owesAt Pipeline.owesWithin
  icases Ho with ⟨%W, -, HO⟩
  ihave Hx := (owns_staged c cc0_stg0_0 _).1 $$ Hx
  ihave Hr := (owns_staged c cc0_stg1_0 _).1 $$ Hr
  iapply (wp_body m c)
  unfold bodyPre bodyPost
  isplitl [HΦ HO Hx Hr]
  · isplitl [HΦ]; · iexact HΦ
    isplitl [HO]; · iexists W; iexact HO
    isplitl [Hx]; · iexact Hx
    iexists _; iexact Hr
  iintro ⟨HΦ, ⟨%W', HO⟩, Hx, Hr⟩
  isplitl [HΦ]; · iexact HΦ
  isplitl [HO]
  · iexists W'
    isplitr; · (ipureintro; exact fun _ _ => Or.inl trivial)
    iexact HO
  isplitl [Hx]
  · iapply (owns_staged c cc0_stg0_0 _).2; iexact Hx
  iapply (owns_staged c cc0_stg1_0 _).2; iexact Hr

end Cert.KernelIdeal.Exchange

end
-- ==== Proof.KernelIdealLaunch.lean ====
/- The launch of `KernelIdeal` on all sixteen devices: the exchange's cells are set up, each device is dealt its
   rights, and the whole program ends with every result written, every argument as it was and every semaphore
   counter at zero. -/
module

public import proofs.«01_k».proof.Proof.KernelIdealBody
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ) (ρ : Dev nD → PrngReg)

/-! ## The cells at the launch -/

/-- The kernel's two semaphores beside the barrier. -/
abbrev ownSem : Fin 2 → SemLoc sig := ![Role.slot .send, Role.slot .recv]
/-- They are distinct, the kernel's own, and none of them stages a window. -/
theorem ownSem_facts : Pipeline.OwnSemFacts cfg0.spec ownSem := by decide

/-- All the cells of the exchange. -/
def cells : Finset (GSem nD τ sig) := Finset.univ.map ⟨cell, cell_injective⟩
/-- The one raise of each. -/
def raises : Finset (GSem nD τ sig × ℕ × Unit) :=
  Finset.univ.map ⟨fun ck => (cell ck, 0, ()), fun _ _ h => cell_injective (congrArg Prod.fst h)⟩

/-- The launch element: the staging transfers' cells and the exchange's. -/
def seed : Ghost := (initOf (Pipeline.cells cfgs cellOf_inj) (Pipeline.launchToks cfgs cellOf_inj), initOf cells raises)

/-- What a cell starts with. -/
def fresh (ck : Dev nD × Role) : sProp 𝕄 :=
  iprop(roundState exEmb (sched m) (cell ck) 0 ∗ reached exEmb (cell ck) 0 ∗ atPos exEmb (cell ck) 0 ∅ 0 ∗ dutyTok exEmb (cell ck) 0 ())
/-- The start of a device's three cells. -/
def freshAll (c : Dev nD) : sProp 𝕄 := bigSep Finset.univ fun k : Role => fresh m (c, k)

/-- The launch element gives every device its cells' start. -/
theorem fund_cells : BI.own (exEmb (F := F) (initOf cells raises)) ⊢ (|==> bigSep Finset.univ (freshAll m) : sProp 𝕄) := by
  refine (Rounds.fund exEmb (sched m) cells raises).trans (BI.bupd_mono ?_)
  refine (show (_ : sProp 𝕄) ⊢ _ from Entails.of_eq ?_)
  unfold cells raises
  rw [bigSep_map, bigSep_map, bigSep_map, bigSep_map, ← bigSep_sep', ← bigSep_sep', ← bigSep_sep']
  exact bigSep_univ_prod (fresh m)

omit [FloatOps F] in
/-- The launch's counters of a device's own semaphores are its `send` and `recv`. -/
theorem ownCounters (c : Dev nD) :
    (Pipeline.ownSems0 (Ix := Unit) (Name := ℕ) (U := Ghost) (Lvl := ℕ) (Val := Elt F) (τ := τ) ownSem c : sProp 𝕄)
      = iprop(semVal (cell (c, .send)) 0 ∗ semVal (cell (c, .recv)) 0) := by
  rw [Pipeline.ownSems0_eq_of_list c ownSem [0, 1] (by decide) (by decide)]; rfl
omit [FloatOps F] in
/-- The only counter outside the kernel's scope is the barrier's. -/
theorem outerCounters (c : Dev nD) : (unscopedSems0 c : sProp 𝕄) = semVal (cell (c, .bar)) 0 := by
  unfold unscopedSems0; rw [bigSep_eq_bigSepL_of_eq [Role.slot .bar] (by decide) (by decide)]; rfl

/-- What is known of a cell once its invariant stands. -/
def opened (ck : Dev nD × Role) : sProp 𝕄 := iprop(∃ κ : ℕ, cellInv exEmb (sched m) κ (cell ck) ∗ reached exEmb (cell ck) 0)

/-- A cell at zero with its start yields its invariant, its waiter's position and the right to raise it. -/
theorem open_cell (ck : Dev nD × Role) :
    iprop(semVal (cell ck) 0 ∗ fresh m ck)
      ⊢ |={Set.univ}=> iprop(opened m ck ∗ atPos exEmb (cell ck) 0 ∅ 0 ∗ dutyTok exEmb (cell ck) 0 ()) := by
  unfold fresh opened
  iintro ⟨Hv, Hs, Hr, Hrest⟩
  imod ((Rounds.body_intro exEmb (sched m) (cell ck)).trans inv_alloc) $$ [Hv Hs] with ⟨%κ, HI⟩
  · isplitl [Hv] <;> iassumption
  imodintro
  isplitr [Hrest]
  · iexists κ
    isplitl [HI] <;> iassumption
  iexact Hrest

/-- The counters and starts of all devices, cell by cell. -/
theorem by_cells :
    (bigSep Finset.univ fun c => iprop(Pipeline.ownSems0 (Ix := Unit) (Name := ℕ) (U := Ghost) (Lvl := ℕ) (Val := Elt F) (τ := τ) ownSem c
        ∗ unscopedSems0 c ∗ freshAll m c) : sProp 𝕄)
      ⊢ bigSep Finset.univ fun ck => iprop(semVal (cell ck) 0 ∗ fresh m ck) := by
  rw [bigSep_univ_prod]
  refine bigSep_mono fun c _ => ?_
  rw [ownCounters, outerCounters, bigSep_sep', bigSep_role]
  unfold freshAll
  show iprop((semVal (cell (c, .send)) 0 ∗ semVal (cell (c, .recv)) 0) ∗ semVal (cell (c, .bar)) 0 ∗ bigSep Finset.univ fun k => fresh m (c, k))
    ⊢ iprop((semVal (cell (c, .bar)) 0 ∗ semVal (cell (c, .send)) 0 ∗ semVal (cell (c, .recv)) 0) ∗ bigSep Finset.univ fun k => fresh m (c, k))
  iintro ⟨⟨Hs, Hr⟩, Hb, HG⟩
  isplitr [HG]
  · isplitl [Hb]; · iexact Hb
    isplitl [Hs] <;> iassumption
  iexact HG

omit [FloatOps F] in
/-- The waiters' positions and the rights to raise, each right given to the device that raises. -/
theorem deal_rights :
    iprop((bigSep Finset.univ fun ck => atPos exEmb (cell ck) 0 ∅ 0) ∗ bigSep Finset.univ fun ck => dutyTok exEmb (cell ck) 0 ())
      ⊢ (bigSep Finset.univ rights : sProp 𝕄) := by
  rw [bigSep_univ_equiv raisedEquiv (fun ck => (dutyTok exEmb (cell ck) 0 () : sProp 𝕄)), ← bigSep_sep', bigSep_univ_prod]
  exact BI.Entails.refl _

/-- What all may know goes to every device. -/
theorem deal_known (K : Dev nD × Role → ℕ) : iprop(known m K ∗ bigSep Finset.univ rights) ⊢ bigSep Finset.univ (dealt m) := by
  refine (sep_mono_left (BI.bigSep_of_persistent (Finset.univ : Finset (Dev nD)) (known m K))).trans ?_
  rw [← bigSep_sep']
  refine bigSep_mono fun c _ => ?_
  show iprop(known m K ∗ rights c) ⊢ dealt m c
  unfold dealt
  iintro H
  iexists K; iexact H

/-- All the cells opened together. -/
theorem open_cells :
    (bigSep Finset.univ fun ck => iprop(semVal (cell ck) 0 ∗ fresh m ck) : sProp 𝕄)
      ⊢ |={Set.univ}=> bigSep Finset.univ fun ck => iprop(opened m ck ∗ atPos exEmb (cell ck) 0 ∅ 0 ∗ dutyTok exEmb (cell ck) 0 ()) :=
  (bigSep_mono fun ck _ => open_cell m ck).trans (bigSep_fupd Finset.univ _)

/-- Opened cells, positions and rights, dealt to the devices. -/
theorem deal :
    (bigSep Finset.univ fun ck => iprop(opened m ck ∗ atPos exEmb (cell ck) 0 ∅ 0 ∗ dutyTok exEmb (cell ck) 0 ()) : sProp 𝕄)
      ⊢ bigSep Finset.univ (dealt m) := by
  rw [bigSep_sep', bigSep_sep']
  unfold opened
  iintro ⟨Hk, Hrest⟩
  ihave HK := (BI.bigSep_exists_pi Finset.univ
    (fun (ck : Dev nD × Role) (κ : ℕ) => (iprop(cellInv exEmb (sched m) κ (cell ck) ∗ reached exEmb (cell ck) 0) : sProp 𝕄))) $$ Hk
  icases HK with ⟨%K, HK⟩
  iapply (deal_known m K)
  isplitl [HK]
  · unfold known; iexact HK
  iapply (deal_rights (F := F)); iexact Hrest

/-- The set-up of all devices at once. -/
theorem set_up :
    (bigSep Finset.univ fun c => iprop(Pipeline.ownSems0 (Ix := Unit) (Name := ℕ) (U := Ghost) (Lvl := ℕ) (Val := Elt F) (τ := τ) ownSem c
        ∗ unscopedSems0 c ∗ freshAll m c) : sProp 𝕄)
      ⊢ |={Set.univ}=> bigSep Finset.univ (dealt m) := by
  iintro H
  ihave H := (by_cells m) $$ H
  imod (open_cells m) $$ H with H
  imodintro
  iapply (deal m); iexact H

/-! ## Credits, entry and exit -/

omit [FloatOps F] in
/-- What the devices owe at the start is the credit to wait for one signal and one arrival. -/
theorem credits (c : Dev nD) :
    (Pipeline.launchCred owedStart c : sProp 𝕄) ⊢ iprop(cred (tallyAt (cell (c, .recv)) () N) ∗ cred (tallyAt (cell (c, .bar)) () 1)) := by
  rw [show (owedStart : Dev nD → CellTallies nD τ sig Unit) = fun d => owedCopy d + tallyAt (cell (peer d, .bar)) () 1 from rfl,
    Pipeline.launchCred_add]
  exact BI.sep_mono (Pipeline.launchCred_tallyAt _ peer peer peer_peer peer_peer () N c)
    (Pipeline.launchCred_tallyAt _ peer peer peer_peer peer_peer () 1 c)

/-- A device's start, from what the launch leaves it. -/
theorem start_of_launch (c : Dev nD) :
    iprop(Pipeline.unscopedRestP Pipeline.Prefetch.none cfg0.spec c (fun b => m ((c : Thread nD τ).loc b)) ∗ levAts L lev
        ∗ Pipeline.launchCred owedStart c ∗ prngReg c (ρ c) ∗ dealt m c)
      ⊢ |={Set.univ}=> iprop(atStart m c ∗ emp) := by
  iintro ⟨-, Hlev, Hcr, -, Hd⟩
  ihave Hc := (credits (F := F) c) $$ Hcr
  icases Hc with ⟨Hr, Hb⟩
  imodintro
  unfold atStart
  isplitl
  · isplitl [Hd]; · iexact Hd
    isplitl [Hb]; · iexact Hb
    isplitl [Hr] <;> iassumption
  · iempintro

/-- Entering the kernel, the two scratch buffers join the start. -/
theorem enter (c : Dev nD) :
    iprop(atStart m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  simp only [outPts_eq, inPts_eq]
  iintro ⟨Hs, -, Ho, Hi⟩
  isplitl [Hs]; · iexact Hs
  isplitl [Ho] <;> iassumption

/-- Leaving it, the counters are at zero and the scratch buffers are given back. -/
theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = after m c from rfl, scopedRest0_eq, ownCounters, outerCounters]
  unfold after
  rw [bigSep_role, outPts_eq, inPts_eq]
  iintro ⟨⟨Ho, Hi⟩, Hb, Hsr⟩
  isplitl [Hb]; · iexact Hb
  isplitl [Hsr]; · iexact Hsr
  isplitl [Ho]
  · iexists _; iexact Ho
  · iexists _; iexact Hi

/-- The staging transfers may be waited for all along. -/
theorem staging_waits (c : Dev nD) : (levAts L lev : sProp 𝕄) ⊢ Pipeline.cellsWaits cfgs (dats m) () 0 c :=
  Pipeline.cellsWaits_intro cfgs (dats m) () 0 c fun w s t => by
    have hs : roleOf (.dma (((cfgs 0).win w).sem s)) = none := by fin_cases w <;> fin_cases s <;> decide
    rcases t with ⟨_ | _, ht⟩
    · exact mayWait_staging c _ hs
    · show (levAts L lev : sProp 𝕄) ⊢ MayWait (c : Thread nD τ) _ () 0
      rw [MayWait_zero]
      iintro -; iempintro

/-- Every window's array is owned whole. -/
theorem share_full (c : Dev nD) (w : Fin cfg0.W) : (dats m 0 c).share w = fullShare := by unfold Dat.share; split <;> rfl

/-! ## The run -/

/-- The array of a window after the kernel. -/
def final (c : Dev nD) (w : Fin cfg0.W) : Buf (Elt F) ((cfg0.win w).arr.view.loc (c : Thread nD τ)) := (dats m 0 c).arrAt w cfg0.N

set_option maxRecDepth 8000 in
/-- The program ends with each window's array at `final` and every counter at zero. -/
theorem run_arrays : θ_run defs (onTc (τ := τ) (main (F := F))) ⟨m, fun _ => 0, ρ⟩
    (fun r => (∀ (c : Dev nD) (w : Fin cfg0.W), r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) stagingEmb defs₀ Variants.none m ρ main
    (hmain := fun _ => rfl)
    (hbody := body_obligation m) (hne := block_pos0) (harr := arr_whole0) (hstage := stage_whole0) (hshare := share_full m)
    (hdistinct := winFacts0.arr_inj)
    (O₀ := owedStart) (howed₀ := fun _ => rfl) (howedN := fun _ => rfl)
    (L := L) (lv := lev) (hL := fun _ h => if_neg h) (hwaits := staging_waits m)
    (G := freshAll m) (G' := dealt m) (u₀ := seed)
    (hu₀ := by
      unfold seed
      iintro Hu
      ihave H := (ownU_pair _ _) $$ Hu
      icases H with ⟨HP, HX⟩
      imod (fund_cells m) $$ HX with HG
      imodintro
      isplitl [HP] <;> iassumption)
    (hglob := set_up m)
    (hA := fun _ _ => rfl) (hpf := fun _ k => k.elim0)
    (X := atStart m) (Y := fun c => unscopedSems0 c) (Z := fun _ => iprop(emp))
    (hX := start_of_launch m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is not written. -/
theorem final_arg (c : Dev nD) : final m c (0 : Fin 2) = m ((c : Thread nD τ).loc main_arg0) := (dats m 0 c).arrAt_in (0 : Fin 2) rfl _

/-- The argument's one block is the whole of it: the staged array is the device's own. -/
theorem xAt_eq (c : Dev nD) : xAt m c = m ((c : Thread nD τ).loc main_arg0) :=
  Memref.read_access_unit_zero (Elt F) main_arg0 (funext fun a => by fin_cases a <;> decide) (fun a => by fin_cases a <;> decide) _

/-- The result's one block is the whole of it: its array ends at what the device computed. -/
theorem final_result (c : Dev nD) : final m c (1 : Fin 2) = result m c := by
  have hblk : (win0_1.blk (0 : Fin 1)).view.read (Elt F) (final m c (1 : Fin 2)) = result m c := by
    unfold final
    rw [show cfg0.N = point.val + 1 from rfl, (dats m 0 c).arrAt_succ (1 : Fin 2) point, if_pos (flush0_1 point)]
    exact View.read_write_univ _ _
  exact (Memref.read_access_unit_zero (Elt F) main_v1 (funext fun a => by fin_cases a <;> decide) (fun a => by fin_cases a <;> decide) _).symm.trans hblk

/-- From any memory with every counter at zero the program ends with each device's result computed, its argument as it
    was and every counter at zero. -/
theorem run : θ_run defs (onTc (τ := τ) (main (F := F))) ⟨m, fun _ => 0, ρ⟩
    (fun r => (∀ c : Dev nD, r.2.mem ((c : Thread nD τ).loc main_v1) = result m c
        ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (final_result m c), (h.1 c (0 : Fin 2)).trans (final_arg m c)⟩, h.2⟩)
    (run_arrays m ρ)

end Cert.KernelIdeal.Exchange

end
-- ==== Proof.Value.lean ====
/- The values: over the extended reals what a device computes is its block of the reference's sum. -/
module

public import proofs.«01_k».proof.Proof.KernelIdealLaunch
public import proofs.«01_k».proof.Proof.Gen.ReferenceIdeal.Run
public import Idealize.ShloMosaic.Lib.Layout
public import Idealize.ShloMosaic.Lib.IdealHost
public import Idealize.ShloMosaic.Lib.Pipeline.Value
public import Idealize.ShloMosaic.Lib.Pointwise.Reduce
public import Idealize.ShloMosaic.PureOps.Ideal.Laws

@[expose] public section

noncomputable section

namespace Cert.Value

open Idealize.ShloMosaic Idealize.ShloMosaic.TcCoe
open Cert.KernelIdeal (nD τ sig)
open Cert.KernelIdeal.Exchange

/-- The whole input: the two arrays to add, one under the other. -/
abbrev Whole : Type := (⟨3, ![2, 256, 512]⟩ : Shape).Idx → Ideal .f32
/-- The whole result. -/
abbrev Total : Type := (⟨2, ![256, 512]⟩ : Shape).Idx → Ideal .f32

/-- The part of the input on device `c`: one of the two arrays. -/
abbrev slab (c : Dev nD) (X : Whole) : (⟨3, ![1, 256, 512]⟩ : Shape).Idx → Ideal .f32 :=
  Layout.blockN ⟨3, ![1, 256, 512]⟩ ⟨3, ![2, 256, 512]⟩ (Layout.meshBlock [2, 2, 4] ![[0], [], []] c) X
/-- The part of the result on device `c`: the low or the high columns. -/
abbrev columns (c : Dev nD) (v : Total) : (⟨2, ![256, 256]⟩ : Shape).Idx → Ideal .f32 :=
  Layout.blockN ⟨2, ![256, 256]⟩ ⟨2, ![256, 512]⟩ (Layout.meshBlock [2, 2, 4] ![[], [0]] c) v

/-- Device `c`'s coordinate on the mesh's first axis. -/
def side (c : Dev nD) : Fin 2 := ⟨c.val / 8, by have h : c.val < 16 := c.isLt; omega⟩
/-- The column of the whole that column `q` of device `c`'s result is. -/
def column (c : Dev nD) (q : Fin 256) : Fin 512 := ⟨256 * (side c).val + q.val, by have := (side c).isLt; omega⟩

/-- A device and its partner are on different sides. -/
theorem sides : ∀ c : Dev nD, (side c = 0 ∧ side (peer c) = 1) ∨ (side c = 1 ∧ side (peer c) = 0) := by decide

/-- What a device's part of the input reads. -/
theorem slab_apply (c : Dev nD) (X : Whole) (p : Fin 256) (q : Fin 512) : slab c X (ix3 0 p q) = X (ix3 (side c) p q) := by
  refine congrArg X (funext fun a => Fin.ext ?_)
  match a with
  | ⟨0, _⟩ => show Layout.meshLin [2, 2, 4] c.val [0] * 1 + 0 = (side c).val; revert c; decide
  | ⟨1, _⟩ => show 0 * 256 + p.val = p.val; omega
  | ⟨2, _⟩ => show 0 * 512 + q.val = q.val; omega

/-- What a device's part of the result reads. -/
theorem columns_apply (c : Dev nD) (v : Total) (i : (⟨2, ![256, 256]⟩ : Shape).Idx) : columns c v i = v (ix2 (i 0) (column c (i 1))) := by
  refine congrArg v (funext fun a => Fin.ext ?_)
  match a with
  | ⟨0, _⟩ => show 0 * 256 + (i 0).val = (i 0).val; omega
  | ⟨1, _⟩ =>
    show Layout.meshLin [2, 2, 4] c.val [0] * 256 + (i 1).val = 256 * (side c).val + (i 1).val
    rw [show Layout.meshLin [2, 2, 4] c.val [0] = (side c).val from by revert c; decide, Nat.mul_comm]

/-- The reference's sum of the two arrays. -/
def total (X : Whole) : Total :=
  Host.reduceAdd X (constant Cert.ReferenceIdeal.S_ .f32 0x00000000#32) Cert.ReferenceIdeal.Gen.reducesTo_S2x256x512_S256x512_d0 Cert.ReferenceIdeal.Gen.h_S_

/-- Its elements. -/
theorem total_apply (X : Whole) (p : Fin 256) (q : Fin 512) : total X (ix2 p q) = X (ix3 0 p q) + X (ix3 1 p q) := by
  unfold total
  rw [ValueIdx.hostReduceAdd_apply, Ideal.hostReduceAdd_r3_a0, Fin.sum_univ_two]
  rw [show constant (F := Ideal) Cert.ReferenceIdeal.S_ .f32 0x00000000#32 _ = (0 : EReal) from Ideal.ofBits_zero_f32, zero_add]
  rfl

/-- Where an index of the half `b` is in a device's array. -/
theorem half_apply (b : Bool) (x : (⟨3, ![1, 256, 512]⟩ : Shape).Idx → Ideal .f32) (i : (⟨2, ![256, 256]⟩ : Shape).Idx) (q : Fin 512)
    (hq : q.val = halfOff b 2 + (i 1).val) :
    shapeCast ⟨2, ![256, 256]⟩ (half (F := Ideal) b x) Cert.KernelIdeal.Gen.shapeCasts_S1x256x256_S256x256 i = x (ix3 0 (i 0) q) := by
  rw [shapeCast_dropUnit_apply]
  refine congrArg x (funext fun a => Fin.ext ?_)
  match a with
  | ⟨0, _⟩ => cases b <;> rfl
  | ⟨1, _⟩ => cases b <;> (show 0 + 1 * (i 0).val = (i 0).val; omega)
  | ⟨2, _⟩ => show halfOff b 2 + 1 * (i 1).val = q.val; omega

/-- What a device keeps and what its partner sends start at the same column, the first of the device's result. -/
theorem first_column : ∀ c : Dev nD, halfOff (!isLow c) 2 = 256 * (side c).val ∧ halfOff (isLow (peer c)) 2 = 256 * (side c).val := by decide

/-- The array a device starts with. -/
def own (m : (ℓ : Loc nD τ sig) → Buf (Elt Ideal) ℓ) (c : Dev nD) : (⟨3, ![1, 256, 512]⟩ : Shape).Idx → Ideal .f32 :=
  m ((c : Thread nD τ).loc Cert.KernelIdeal.main_arg0)

/-- What a device computes: over the extended reals the rounding on the wire is the identity. -/
theorem result_apply (m : (ℓ : Loc nD τ sig) → Buf (Elt Ideal) ℓ) (c : Dev nD) (i : (⟨2, ![256, 256]⟩ : Shape).Idx) :
    result (F := Ideal) m c i = own m c (ix3 0 (i 0) (column c (i 1))) + own m (peer c) (ix3 0 (i 0) (column c (i 1))) := by
  have hx : ∀ d, xAt m d = own m d := fun d => xAt_eq m d
  rw [← half_apply (!isLow c) (own m c) i (column c (i 1)) (by rw [(first_column c).1]; rfl),
    ← half_apply (isLow (peer c)) (own m (peer c)) i (column c (i 1)) (by rw [(first_column c).2]; rfl)]
  unfold result sent Cert.KernelIdeal.Gen.k0_pay2 Cert.KernelIdeal.Gen.k0_pay1
  rw [hx, hx]
  dsimp only
  rw [shapeCast_self]
  rfl

/-- Each device's result is its part of the reference's sum. -/
theorem result_eq (m : (ℓ : Loc nD τ sig) → Buf (Elt Ideal) ℓ) (X : Whole)
    (h : ∀ c : Dev nD, m ((c : Thread nD τ).loc Cert.KernelIdeal.main_arg0) = slab c X) (c : Dev nD) :
    result (F := Ideal) m c = columns c (total X) := by
  have hown : ∀ d, own m d = slab d X := h
  refine funext fun (i : (⟨2, ![256, 256]⟩ : Shape).Idx) => (result_apply m c i).trans (Eq.trans ?_ (columns_apply c (total X) i).symm)
  refine Eq.trans ?_ (total_apply X (i 0) (column c (i 1))).symm
  rw [hown, hown]
  refine (congrArg₂ (· + ·) (slab_apply c X (i 0) (column c (i 1))) (slab_apply (peer c) X (i 0) (column c (i 1)))).trans ?_
  rcases sides c with ⟨h1, h2⟩ | ⟨h1, h2⟩ <;> rw [h1, h2]
  exact add_comm (G := EReal) _ _

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel over bit patterns runs, keeps its argument and ends with every counter at zero. -/
theorem kernel_frame : Cert.quiescent_Kernel (hKernel := Cert.Kernel.Gen.facts) := fun m g _ =>
  (θ_run _ _ _).mono (fun _ h => ⟨fun c => (h.1 c).2, h.2⟩) (Cert.Kernel.Exchange.run (F := Bits) m g)

/-- So over the extended reals. -/
theorem kernelIdeal_frame : Cert.quiescent_KernelIdeal (hKernelIdeal := Cert.KernelIdeal.Gen.facts) := fun m g _ =>
  (θ_run _ _ _).mono (fun _ h => ⟨fun c => (h.1 c).2, h.2⟩) (Cert.KernelIdeal.Exchange.run (F := Ideal) m g)

/-- The reference runs and keeps its argument; it has no semaphore. -/
theorem referenceIdeal_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- Over the extended reals the devices' results are the blocks of the reference's. -/
theorem results_agree : Cert.algebraic_KernelIdeal_ReferenceIdeal (hKernelIdeal := Cert.KernelIdeal.Gen.facts)
    (hReferenceIdeal := Cert.ReferenceIdeal.Gen.facts) := fun m g m' g' _ hin =>
  ⟨Cert.Value.total (m' (((0 : Dev Cert.ReferenceIdeal.nD).tc : Thread Cert.ReferenceIdeal.nD Cert.ReferenceIdeal.τ).loc Cert.ReferenceIdeal.main_arg0)),
    (θ_run _ _ _).mono (fun _ h c => ⟨(h.1 c).1.trans (Cert.Value.result_eq m _ hin c), (h.1 c).2⟩)
      (Cert.KernelIdeal.Exchange.run (F := Ideal) m g),
    (θ_run _ _ _).mono (fun _ h => h 0) (Cert.ReferenceIdeal.Value.run (F := Ideal) m' g')⟩

/-- Everything the certificate claims. -/
theorem claim : Cert.Claim := ⟨Cert.Kernel.Gen.facts, Cert.KernelIdeal.Gen.facts, Cert.ReferenceIdeal.Gen.facts,
  kernel_frame, kernelIdeal_frame, referenceIdeal_frame, trivial, results_agree⟩

end Cert.Proof

end
